-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_indices) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S64x4096 : Shape := ⟨2, ![64, 4096]⟩
abbrev S4096 : Shape := ⟨1, ![4096]⟩
abbrev S65024x4096 : Shape := ⟨2, ![65024, 4096]⟩
abbrev S1x4096 : Shape := ⟨2, ![1, 4096]⟩
abbrev S64x1 : Shape := ⟨2, ![64, 1]⟩
abbrev S1024x4096 : Shape := ⟨2, ![1024, 4096]⟩
abbrev S64 : Shape := ⟨1, ![64]⟩
abbrev S64x1024 : Shape := ⟨2, ![64, 1024]⟩

abbrev nBuf : Space → Nat
  | .hbm => 5
  | .vmem => 8
  | .smem => 0
  | _ => 0

abbrev bufTy : (tb : Table) → Fin (tcTables nBuf tb) → BufTy
  | .hbm, ⟨0, _⟩ => ⟨S64x4096, .f32⟩
  | .hbm, ⟨1, _⟩ => ⟨S4096, .f32⟩
  | .hbm, ⟨2, _⟩ => ⟨S65024x4096, .f32⟩
  | .hbm, ⟨3, _⟩ => ⟨S1x4096, .f32⟩
  | .hbm, ⟨4, _⟩ => ⟨S64x1, .i32⟩
  | .local _ .vmem, ⟨0, _⟩ => ⟨S64x4096, .f32⟩
  | .local _ .vmem, ⟨1, _⟩ => ⟨S1x4096, .f32⟩
  | .local _ .vmem, ⟨2, _⟩ => ⟨S1024x4096, .f32⟩
  | .local _ .vmem, ⟨3, _⟩ => ⟨S1024x4096, .f32⟩
  | .local _ .vmem, ⟨4, _⟩ => ⟨S64x1, .i32⟩
  | .local _ .vmem, ⟨5, _⟩ => ⟨S64x4096, .bf16⟩
  | .local _ .vmem, ⟨6, _⟩ => ⟨S64x1, .f32⟩
  | .local _ .vmem, ⟨7, _⟩ => ⟨S64x1, .i32⟩
  | _, _ => ⟨S64x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4

abbrev nD : Nat := 1
abbrev τ : Topo := Topo.v7x

variable {F : FTy → Type} [FloatOps F]

abbrev grid0 : Pipeline.Grid := ⟨1, ![64], ![false]⟩

def k0_cond2 (i : grid0.Coords) : BitVec 1 :=
  let arg0 : BitVec 32 := BitVec.ofNat 32 (i 0).val
  let c63_i32 : BitVec 32 := 63#32
  let v37 : BitVec 1 := Scalar.cmpi .eq arg0 c63_i32
  let v38 : BitVec 32 := Scalar.extui v37
  let c0_i32_18 : BitVec 32 := 0#32
  let v39 : BitVec 1 := Scalar.cmpi .ne v38 c0_i32_18
  v39

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S64x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x1 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== ReferenceIdeal.lean ====
abbrev S64x4096 : Shape := ⟨2, ![64, 4096]⟩
abbrev S4096 : Shape := ⟨1, ![4096]⟩
abbrev S65024x4096 : Shape := ⟨2, ![65024, 4096]⟩
abbrev S_ : Shape := ⟨0, ![]⟩
abbrev S64 : Shape := ⟨1, ![64]⟩
abbrev S64x1 : Shape := ⟨2, ![64, 1]⟩
abbrev S1x4096 : Shape := ⟨2, ![1, 4096]⟩
abbrev S4096x65024 : Shape := ⟨2, ![4096, 65024]⟩
abbrev S64x65024 : Shape := ⟨2, ![64, 65024]⟩

abbrev nBuf : Space → Nat
  | .hbm => 23
  | .vmem => 0
  | .smem => 0
  | _ => 0

abbrev bufTy : (tb : Table) → Fin (tcTables nBuf tb) → BufTy
  | .hbm, ⟨0, _⟩ => ⟨S64x4096, .f32⟩
  | .hbm, ⟨1, _⟩ => ⟨S4096, .f32⟩
  | .hbm, ⟨2, _⟩ => ⟨S65024x4096, .f32⟩
  | .hbm, ⟨3, _⟩ => ⟨S64x4096, .f32⟩
  | .hbm, ⟨4, _⟩ => ⟨S_, .f32⟩
  | .hbm, ⟨5, _⟩ => ⟨S64, .f32⟩
  | .hbm, ⟨6, _⟩ => ⟨S64x1, .f32⟩
  | .hbm, ⟨7, _⟩ => ⟨S_, .f32⟩
  | .hbm, ⟨8, _⟩ => ⟨S64x1, .f32⟩
  | .hbm, ⟨9, _⟩ => ⟨S64x1, .f32⟩
  | .hbm, ⟨10, _⟩ => ⟨S_, .f32⟩
  | .hbm, ⟨11, _⟩ => ⟨S64x1, .f32⟩
  | .hbm, ⟨12, _⟩ => ⟨S64x1, .f32⟩
  | .hbm, ⟨13, _⟩ => ⟨S64x1, .f32⟩
  | .hbm, ⟨14, _⟩ => ⟨S64x4096, .f32⟩
  | .hbm, ⟨15, _⟩ => ⟨S64x4096, .f32⟩
  | .hbm, ⟨16, _⟩ => ⟨S1x4096, .f32⟩
  | .hbm, ⟨17, _⟩ => ⟨S64x4096, .f32⟩
  | .hbm, ⟨18, _⟩ => ⟨S64x4096, .f32⟩
  | .hbm, ⟨19, _⟩ => ⟨S4096x65024, .f32⟩
  | .hbm, ⟨20, _⟩ => ⟨S64x65024, .f32⟩
  | .hbm, ⟨21, _⟩ => ⟨S64x1, .f32⟩
  | .hbm, ⟨22, _⟩ => ⟨S64x1, .i32⟩
  | _, _ => ⟨S64x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_values : Ref sig .tc := ⟨.hbm, 21, rfl⟩
abbrev main_indices : Ref sig .tc := ⟨.hbm, 22, rfl⟩

abbrev nD : Nat := 1
abbrev τ : Topo := Topo.v7x

variable {F : FTy → Type} [FloatOps F]
-- ==== Proof.Body.lean ====
/-
  The kernel's body as a triple, at any float values: what one grid point leaves in the windows' staging buffers and in
  the three scratch buffers, as a function of what they held.

  `owns_load_whole` and `owns_store_whole` are the two steps the body is made of: every access of this kernel is to a
  whole buffer.
-/
module

public import proofs.«01_k».proof.Defs
public import proofs.«01_k».proof.Proof.Gen.KernelIdeal.Skeleton
public import proofs.«01_k».proof.Proof.Gen.KernelIdeal.Frame
public import Idealize.ShloMosaic.Lib.Pipeline.Value
public import Idealize.ShloMosaic.Lib.VecWindow

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The kernel's variants: none. -/
abbrev 𝒱₀ : Variants := Variants.none

/-- The zero offsets of an access, as they are printed, are the zero function. -/
theorem zero_offsets : (![0, 0] : Fin 2 → Nat) = fun _ => 0 := funext fun a => by fin_cases a <;> rfl

/-- A load of a whole buffer owned at `X` continues at `X`, the buffer unchanged. -/
theorem owns_load_whole (c : Dev nD) (E : Set ℕ) {α : Type} {Q : α → sProp 𝕄} {cs : CoreSpace} {S : Shape} {e : EltTy}
    (m : Memref sig .tc cs S e) (X : S.Idx → Elt F e) {off : Fin S.rank → Nat}
    (hz : off = fun _ => 0) {inb : ∀ a, off a + S.size a ≤ S.size a}
    {hl : m.view.LoadsAt (Rect.unit off S.size inb).toLoadRect}
    {k : (S.Idx → Elt F e) → Prog (TpuEff nD τ sig (Elt F) Λ₀ .tc) α} :
    owns (c : Thread nD τ) m fullShare X
      ⊢ iprop((owns (c : Thread nD τ) m fullShare X -∗ wp frame (wpE (defs₀ (F := F)) 𝒱₀ c none) E (k X) Q)
        -∗ wp frame (wpE (defs₀ (F := F)) 𝒱₀ c none) E
            (.op (.load m (Rect.unit off S.size inb).toLoadRect hl) k) Q) := by
  unfold owns
  iintro ⟨%f, %hf, H⟩ Hk
  have hread : m.view.readAt (Elt F) (Rect.unit off S.size inb).toLoadRect f = X := by
    rw [View.readAt_eq_ld, View.ld_unit_zero hz, hf]
  have hw := wp_load (Val := Elt F) (defs := defs₀ (F := F)) 𝒱₀ (c : Thread nD τ) none (Γ := ∅) E (Ix := Unit)
    (Name := ℕ) (U := UR sig nD τ) (Lvl := ℕ)
    (m := m) (hl := hl) (k := k) (Q := Q) (q := fullShare) (f := f) (S := m.view.set)
    (Finset.map_subset_map.2 (Finset.subset_univ _))
  rw [hread] at hw
  iapply hw $$ H
  iintro H
  iapply Hk
  iexists f
  isplitr
  · ipureintro; exact hf
  iexact H

/-- A store of a whole buffer leaves the stored contents. -/
theorem owns_store_whole (c : Dev nD) (E : Set ℕ) {α : Type} {Q : α → sProp 𝕄} {cs : CoreSpace} {S : Shape} {e : EltTy}
    (m : Memref sig .tc cs S e) (X w : S.Idx → Elt F e) {off : Fin S.rank → Nat}
    (hz : off = fun _ => 0) {inb : ∀ a, off a + S.size a ≤ S.size a}
    {hx : (m.access (Rect.unit off S.size inb)).Stores Finset.univ}
    {hm : (Finset.univ : Finset (Rect.unit off S.size inb).shape.Idx) = Finset.univ ∨ ∀ a, (Rect.unit off S.size inb).stride a = 1}
    {k : PUnit → Prog (TpuEff nD τ sig (Elt F) Λ₀ .tc) α} :
    owns (c : Thread nD τ) m fullShare X
      ⊢ iprop((owns (c : Thread nD τ) m fullShare w -∗ wp frame (wpE (defs₀ (F := F)) 𝒱₀ c none) E (k ⟨⟩) Q)
        -∗ wp frame (wpE (defs₀ (F := F)) 𝒱₀ c none) E
            (.op (.store m (Rect.unit off S.size inb) w Finset.univ hx hm) k) Q) := by
  unfold owns
  iintro ⟨%f, %hf, H⟩ Hk
  have hread : m.view.read (Elt F) ((m.access (Rect.unit off S.size inb)).write (Elt F) f w Finset.univ) = w :=
    View.read_writes_full m.view f inb w []
  have hw := wp_store (Val := Elt F) (defs := defs₀ (F := F)) 𝒱₀ (c : Thread nD τ) none (Γ := ∅) E (Ix := Unit)
    (Name := ℕ) (U := UR sig nD τ) (Lvl := ℕ)
    (m := m) (hx := hx) (hm := hm) (k := k) (Q := Q) (f := f) (S := m.view.set) (w := w)
    (by rw [View.setOn_univ]; exact View.set_slice_subset ..)
  iapply hw $$ H
  iintro H
  iapply Hk
  iexists _
  isplitr
  · ipureintro; exact hread
  iexact H

/-! ## What a point leaves, as functions of what it finds -/

/-- The normalised rows in the first scratch buffer while point `i` multiplies: computed at the first point, kept after. -/
def hnOf (i : grid0.Coords) (x : S64x4096.Idx → Elt F .f32) (w : S1x4096.Idx → Elt F .f32)
    (s : S64x4096.Idx → Elt F .bf16) : S64x4096.Idx → Elt F .bf16 := if (i 0).val = 0 then k0_pay2 x w else s

/-- The running maximum point `i` starts from: minus infinity at the first point. -/
def bv0Of (i : grid0.Coords) (s : S64x1.Idx → Elt F .f32) : S64x1.Idx → Elt F .f32 := if (i 0).val = 0 then k0_pay3 else s

/-- The running index point `i` starts from: zero at the first point. -/
def bi0Of (F : FTy → Type) [FloatOps F] (i : grid0.Coords) (s : S64x1.Idx → Elt F .i32) : S64x1.Idx → Elt F .i32 :=
  if (i 0).val = 0 then k0_pay4 else s

/-- The running maximum point `i` leaves, on the normalised rows `h`, the weight block `w` and the maximum `s` before it. -/
def bvStep (i : grid0.Coords) (h : S64x4096.Idx → Elt F .bf16) (w : S1024x4096.Idx → Elt F .f32)
    (s : S64x1.Idx → Elt F .f32) : S64x1.Idx → Elt F .f32 := k0_pay8 i h w s s

/-- The running index point `i` leaves, on the same and the index `b` before it. -/
def biStep (i : grid0.Coords) (h : S64x4096.Idx → Elt F .bf16) (w : S1024x4096.Idx → Elt F .f32)
    (s : S64x1.Idx → Elt F .f32) (b : S64x1.Idx → Elt F .i32) : S64x1.Idx → Elt F .i32 := k0_pay1 (k0_pay9 i h w s b)

/-- The first branch's condition: the point is the first. -/
theorem cond1_iff (i : grid0.Coords) :
    Scalar.cmpi .ne (Scalar.extui (Scalar.cmpi .eq (BitVec.ofNat 32 (i 0).val) 0#32)) 0#32 = 1#1 ↔ (i 0).val = 0 := by
  have h : ∀ k : Fin 64, Scalar.cmpi .ne (Scalar.extui (Scalar.cmpi .eq (BitVec.ofNat 32 k.val) 0#32)) 0#32 = 1#1 ↔ k.val = 0 := by
    decide +kernel
  exact h (i 0)

/-- The second branch's condition: the point is the last. -/
theorem cond2_iff (i : grid0.Coords) : k0_cond2 i = 1#1 ↔ (i 0).val = 63 := by
  have h : ∀ k : Fin 64, Scalar.cmpi .ne (Scalar.extui (Scalar.cmpi .eq (BitVec.ofNat 32 k.val) 63#32)) 0#32 = 1#1 ↔ k.val = 63 := by
    decide +kernel
  exact h (i 0)

/-- The rest of the body's first part, after the first point's fill: the loads, the new maximum's store, and the new
    index returned. -/
theorem part1_rest (c : Dev nD) (E : Set ℕ) (i : grid0.Coords)
    (m1 : Memref sig .tc .vmem S64x4096 .f32) (m2 : Memref sig .tc .vmem S1x4096 .f32)
    (m3 : Memref sig .tc .vmem S1024x4096 .f32) (m5 : Memref sig .tc .vmem S64x4096 .bf16)
    (m6 : Memref sig .tc .vmem S64x1 .f32) (m7 : Memref sig .tc .vmem S64x1 .i32)
    {X1 : S64x4096.Idx → Elt F .f32} {X2 : S1x4096.Idx → Elt F .f32} {X3 : S1024x4096.Idx → Elt F .f32}
    {S5 : S64x4096.Idx → Elt F .bf16} {S6 : S64x1.Idx → Elt F .f32} {S7 : S64x1.Idx → Elt F .i32}
    {K : (Σ' (_ : BitVec 32), IVec S64x1 32) → sProp 𝕄} {inb5 inb3 inb6 inb7 hl5 hl3 hl6 hl6' hl6'' hx hm hl7} :
    iprop((owns (c : Thread nD τ) m1 fullShare X1 ∗ owns (c : Thread nD τ) m2 fullShare X2
            ∗ owns (c : Thread nD τ) m3 fullShare X3 ∗ owns (c : Thread nD τ) m5 fullShare S5
            ∗ owns (c : Thread nD τ) m6 fullShare S6 ∗ owns (c : Thread nD τ) m7 fullShare S7)
          ∗ (iprop(owns (c : Thread nD τ) m1 fullShare X1 ∗ owns (c : Thread nD τ) m2 fullShare X2
              ∗ owns (c : Thread nD τ) m3 fullShare X3 ∗ owns (c : Thread nD τ) m5 fullShare S5
              ∗ owns (c : Thread nD τ) m6 fullShare (bvStep i S5 X3 S6)
              ∗ owns (c : Thread nD τ) m7 fullShare S7)
            -∗ K ⟨BitVec.ofNat 32 (i 0).val, k0_pay9 i S5 X3 S6 S7⟩))
      ⊢ wp frame (wpE (defs₀ (F := F)) 𝒱₀ c none) E
          (.op (.load m5 (Rect.unit (s := S64x4096) ![0, 0] S64x4096.size inb5).toLoadRect hl5) fun v3 =>
            .op (.load m3 (Rect.unit (s := S1024x4096) ![0, 0] S1024x4096.size inb3).toLoadRect hl3) fun v4 =>
            .op (.load m6 (Rect.unit (s := S64x1) ![0, 0] S64x1.size inb6).toLoadRect hl6) fun v25 =>
            .op (.load m6 (Rect.unit (s := S64x1) ![0, 0] S64x1.size inb6).toLoadRect hl6') fun v27 =>
            .op (.load m6 (Rect.unit (s := S64x1) ![0, 0] S64x1.size inb6).toLoadRect hl6'') fun _ =>
            .op (.store m6 (Rect.unit (s := S64x1) ![0, 0] S64x1.size inb6) (k0_pay8 i v3 v4 v25 v27) Finset.univ hx hm) fun _ =>
            .op (.load m7 (Rect.unit (s := S64x1) ![0, 0] S64x1.size inb7).toLoadRect hl7) fun v32 =>
            .ret ⟨BitVec.ofNat 32 (i 0).val, k0_pay9 i v3 v4 v25 v32⟩) K := by
  have hz := zero_offsets
  iintro ⟨⟨H1, H2, H3, H5, H6, H7⟩, Hk⟩
  iapply (owns_load_whole c E m5 S5 hz) $$ H5; iintro H5
  iapply (owns_load_whole c E m3 X3 hz) $$ H3; iintro H3
  iapply (owns_load_whole c E m6 S6 hz) $$ H6; iintro H6
  iapply (owns_load_whole c E m6 S6 hz) $$ H6; iintro H6
  iapply (owns_load_whole c E m6 S6 hz) $$ H6; iintro H6
  iapply (owns_store_whole c E m6 S6 _ hz) $$ H6; iintro H6
  iapply (owns_load_whole c E m7 S7 hz) $$ H7; iintro H7
  sl_step
  iapply Hk
  isplitl [H1]; · iexact H1
  isplitl [H2]; · iexact H2
  isplitl [H3]; · iexact H3
  isplitl [H5]; · iexact H5
  isplitl [H6]; · iexact H6
  iexact H7

set_option maxHeartbeats 1000000 in
/-- The first part of the body: from what the buffers hold it fills the scratch at the first point, leaves the new
    maximum, and returns the new index (not yet stored). -/
theorem part1_triple (c : Dev nD) (E : Set ℕ) (i : grid0.Coords)
    (m1 : Memref sig .tc .vmem S64x4096 .f32) (h1 : m1.IsWhole) (m2 : Memref sig .tc .vmem S1x4096 .f32) (h2 : m2.IsWhole)
    (m3 : Memref sig .tc .vmem S1024x4096 .f32) (h3 : m3.IsWhole) (m4 : Memref sig .tc .vmem S64x1 .i32) (h4 : m4.IsWhole)
    (m5 : Memref sig .tc .vmem S64x4096 .bf16) (h5 : m5.IsWhole) (m6 : Memref sig .tc .vmem S64x1 .f32) (h6 : m6.IsWhole)
    (m7 : Memref sig .tc .vmem S64x1 .i32) (h7 : m7.IsWhole)
    (X1 : S64x4096.Idx → Elt F .f32) (X2 : S1x4096.Idx → Elt F .f32) (X3 : S1024x4096.Idx → Elt F .f32)
    (S5 : S64x4096.Idx → Elt F .bf16) (S6 : S64x1.Idx → Elt F .f32) (S7 : S64x1.Idx → Elt F .i32)
    (K : (Σ' (_ : BitVec 32), IVec S64x1 32) → sProp 𝕄) :
    iprop((owns (c : Thread nD τ) m1 fullShare X1 ∗ owns (c : Thread nD τ) m2 fullShare X2
            ∗ owns (c : Thread nD τ) m3 fullShare X3 ∗ owns (c : Thread nD τ) m5 fullShare S5
            ∗ owns (c : Thread nD τ) m6 fullShare S6 ∗ owns (c : Thread nD τ) m7 fullShare S7)
          ∗ (iprop(owns (c : Thread nD τ) m1 fullShare X1 ∗ owns (c : Thread nD τ) m2 fullShare X2
              ∗ owns (c : Thread nD τ) m3 fullShare X3 ∗ owns (c : Thread nD τ) m5 fullShare (hnOf i X1 X2 S5)
              ∗ owns (c : Thread nD τ) m6 fullShare (bvStep i (hnOf i X1 X2 S5) X3 (bv0Of i S6))
              ∗ owns (c : Thread nD τ) m7 fullShare (bi0Of F i S7))
            -∗ K ⟨BitVec.ofNat 32 (i 0).val, k0_pay9 i (hnOf i X1 X2 S5) X3 (bv0Of i S6) (bi0Of F i S7)⟩))
      ⊢ wp frame (wpE (defs₀ (F := F)) 𝒱₀ c none) E
          (k0_part1 i m1 h1 m2 h2 m3 h3 m4 h4 m5 h5 m6 h6 m7 h7) K := by
  have hz := zero_offsets
  rw [k0_part1_eq_skeleton]; unfold k0_part1_skel
  iintro ⟨⟨H1, H2, H3, H5, H6, H7⟩, Hk⟩
  by_cases hi : (i 0).val = 0
  · simp only [hnOf, bv0Of, bi0Of, if_pos hi]
    simp only [dif_pos ((cond1_iff i).2 hi), Prog.lift, Prog.bind_op, Prog.bind_ret]
    iapply (owns_load_whole c E m1 X1 hz) $$ H1; iintro H1
    iapply (owns_load_whole c E m2 X2 hz) $$ H2; iintro H2
    iapply (owns_load_whole c E m5 S5 hz) $$ H5; iintro H5
    iapply (owns_store_whole c E m5 S5 _ hz) $$ H5; iintro H5
    iapply (owns_load_whole c E m6 S6 hz) $$ H6; iintro H6
    iapply (owns_store_whole c E m6 S6 _ hz) $$ H6; iintro H6
    iapply (owns_load_whole c E m7 S7 hz) $$ H7; iintro H7
    iapply (owns_store_whole c E m7 S7 _ hz) $$ H7; iintro H7
    iapply (part1_rest c E i m1 m2 m3 m5 m6 m7)
    isplitl [H1 H2 H3 H5 H6 H7]
    · isplitl [H1]; · iexact H1
      isplitl [H2]; · iexact H2
      isplitl [H3]; · iexact H3
      isplitl [H5]; · iexact H5
      isplitl [H6]; · iexact H6
      iexact H7
    iexact Hk
  · simp only [hnOf, bv0Of, bi0Of, if_neg hi]
    simp only [dif_neg (fun h => hi ((cond1_iff i).1 h)), Prog.lift, Prog.bind_op, Prog.bind_ret]
    iapply (part1_rest c E i m1 m2 m3 m5 m6 m7)
    isplitl [H1 H2 H3 H5 H6 H7]
    · isplitl [H1]; · iexact H1
      isplitl [H2]; · iexact H2
      isplitl [H3]; · iexact H3
      isplitl [H5]; · iexact H5
      isplitl [H6]; · iexact H6
      iexact H7
    iexact Hk

/-- The body at a point: the windows' buffers it only reads stay; the result's buffer takes the new index at the last
    point and stays before it; the scratch buffers end at the normalised rows, the new maximum and the new index. -/
theorem body_triple (c : Dev nD) (E : Set ℕ) (i : grid0.Coords)
    (m1 : Memref sig .tc .vmem S64x4096 .f32) (h1 : m1.IsWhole) (m2 : Memref sig .tc .vmem S1x4096 .f32) (h2 : m2.IsWhole)
    (m3 : Memref sig .tc .vmem S1024x4096 .f32) (h3 : m3.IsWhole) (m4 : Memref sig .tc .vmem S64x1 .i32) (h4 : m4.IsWhole)
    (m5 : Memref sig .tc .vmem S64x4096 .bf16) (h5 : m5.IsWhole) (m6 : Memref sig .tc .vmem S64x1 .f32) (h6 : m6.IsWhole)
    (m7 : Memref sig .tc .vmem S64x1 .i32) (h7 : m7.IsWhole)
    (X1 : S64x4096.Idx → Elt F .f32) (X2 : S1x4096.Idx → Elt F .f32) (X3 : S1024x4096.Idx → Elt F .f32)
    (X4 : S64x1.Idx → Elt F .i32)
    (S5 : S64x4096.Idx → Elt F .bf16) (S6 : S64x1.Idx → Elt F .f32) (S7 : S64x1.Idx → Elt F .i32) (K : PUnit → sProp 𝕄) :
    iprop((owns (c : Thread nD τ) m1 fullShare X1 ∗ owns (c : Thread nD τ) m2 fullShare X2
            ∗ owns (c : Thread nD τ) m3 fullShare X3 ∗ owns (c : Thread nD τ) m4 fullShare X4
            ∗ owns (c : Thread nD τ) m5 fullShare S5
            ∗ owns (c : Thread nD τ) m6 fullShare S6 ∗ owns (c : Thread nD τ) m7 fullShare S7)
          ∗ (iprop(owns (c : Thread nD τ) m1 fullShare X1 ∗ owns (c : Thread nD τ) m2 fullShare X2
              ∗ owns (c : Thread nD τ) m3 fullShare X3
              ∗ owns (c : Thread nD τ) m4 fullShare
                  (if (i 0).val = 63 then biStep i (hnOf i X1 X2 S5) X3 (bv0Of i S6) (bi0Of F i S7) else X4)
              ∗ owns (c : Thread nD τ) m5 fullShare (hnOf i X1 X2 S5)
              ∗ owns (c : Thread nD τ) m6 fullShare (bvStep i (hnOf i X1 X2 S5) X3 (bv0Of i S6))
              ∗ owns (c : Thread nD τ) m7 fullShare (biStep i (hnOf i X1 X2 S5) X3 (bv0Of i S6) (bi0Of F i S7)))
            -∗ K ⟨⟩))
      ⊢ wp frame (wpE (defs₀ (F := F)) 𝒱₀ c none) E
          (cc0__lm_head_kernel i m1 h1 m2 h2 m3 h3 m4 h4 m5 h5 m6 h6 m7 h7) K := by
  have hz := zero_offsets
  rw [cc0__lm_head_kernel_eq_skeleton]; unfold cc0__lm_head_kernel_skel
  rw [wp_bind]
  iintro ⟨⟨H1, H2, H3, H4, H5, H6, H7⟩, Hk⟩
  iapply (part1_triple c E i m1 h1 m2 h2 m3 h3 m4 h4 m5 h5 m6 h6 m7 h7 X1 X2 X3 S5 S6 S7)
  isplitl [H1 H2 H3 H5 H6 H7]
  · isplitl [H1]; · iexact H1
    isplitl [H2]; · iexact H2
    isplitl [H3]; · iexact H3
    isplitl [H5]; · iexact H5
    isplitl [H6]; · iexact H6
    iexact H7
  iintro ⟨H1, H2, H3, H5, H6, H7⟩
  simp only [Prog.lift, Prog.bind_op, Prog.bind_ret]
  iapply (owns_load_whole c E m7 _ hz) $$ H7; iintro H7
  iapply (owns_store_whole c E m7 _ _ hz) $$ H7; iintro H7
  by_cases hi : (i 0).val = 63
  · simp only [if_pos hi]
    simp only [dif_pos ((cond2_iff i).2 hi), Prog.lift, Prog.bind_op, Prog.bind_ret]
    iapply (owns_load_whole c E m7 _ hz) $$ H7; iintro H7
    iapply (owns_load_whole c E m4 _ hz) $$ H4; iintro H4
    iapply (owns_store_whole c E m4 _ _ hz) $$ H4; iintro H4
    sl_step
    iapply Hk
    isplitl [H1]; · iexact H1
    isplitl [H2]; · iexact H2
    isplitl [H3]; · iexact H3
    isplitl [H4]; · iexact H4
    isplitl [H5]; · iexact H5
    isplitl [H6]; · iexact H6
    iexact H7
  · simp only [if_neg hi]
    simp only [dif_neg (fun h => hi ((cond2_iff i).1 h)), Prog.lift, Prog.bind_op, Prog.bind_ret]
    sl_step
    iapply Hk
    isplitl [H1]; · iexact H1
    isplitl [H2]; · iexact H2
    isplitl [H3]; · iexact H3
    isplitl [H4]; · iexact H4
    isplitl [H5]; · iexact H5
    isplitl [H6]; · iexact H6
    iexact H7

end Cert.KernelIdeal.Body

end
-- ==== Proof.Frames.lean ====
/-
  The frame of the kernel at any float values: it terminates, its three arguments end as they began, and every semaphore
  counter ends at zero.

  At an arbitrary float type the last block of the weight matrix leaves unnamed words in the rows of the staging buffer
  past the matrix's end, and a product may depend on them, so nothing is said here of what the scratch buffers or the
  result hold: the scratch invariant is "some contents", and the result's window is handed to the body and taken back at
  anything. `Value.lean` names them for the extended reals.
-/
module

public import proofs.«01_k».proof.Proof.Body

@[expose] public section

set_option maxRecDepth 16384

noncomputable section

namespace Cert.KernelIdeal.Frames

open Cert.KernelIdeal Cert.KernelIdeal.Gen Cert.KernelIdeal.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A weight block filled out past the matrix's end with `d`. -/
abbrev wFill (c : Dev nD) (t : Fin cfg0.N) (d : S1024x4096.Idx → Elt F .f32) : S1024x4096.Idx → Elt F .f32 :=
  win0_2.fill (grid0.coords t) d (iblk m c 2 t)

/-- The filler of the proof data: the zero word. -/
abbrev zeroFill : S1024x4096.Idx → Elt F .f32 := fun _ => Scalar.ofBits .f32 0#32

/-- The proof data: each input window left at its block; the result's window at nothing in particular (it is forgotten);
    the scratch at some contents throughout. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => wFill m c t zeroFill
    | ⟨3, _⟩ => fun _ => (0#32 : BitVec 32)
    | ⟨_ + 4, h⟩ => absurd h (Nat.not_lt.2 (Nat.le_add_left _ _))
  Φ _ := Pipeline.ΦA spec0 c
  q _ := fullShare
  owed _ := 0

/-- The forgotten windows: the result's. -/
abbrev forgotten : Fin 4 → Bool :=
  fun | 0 => false | 1 => false | 2 => false | 3 => true | ⟨_ + 4, h⟩ => absurd h (Nat.not_lt.2 (Nat.le_add_left _ _))

theorem before_0 (c : Dev nD) (t : Fin cfg0.N) (d) : (dats m 0 c).before 0 t d = iblk m c 0 t :=
  before0_0_of m (dats m 0 c) rfl (fun _ => rfl) t d

theorem before_1 (c : Dev nD) (t : Fin cfg0.N) (d) : (dats m 0 c).before 1 t d = iblk m c 1 t :=
  before0_1_of m (dats m 0 c) rfl (fun _ => rfl) t d

theorem before_2 (c : Dev nD) (t : Fin cfg0.N) (d) : (dats m 0 c).before 2 t d = wFill m c t d := by
  unfold Dat.before; rw [if_pos (fetch0_2 t)]; rfl

/-- What the weight window's buffer must hold after a point, on the rows inside the matrix: its block, whatever fills the
    rest. -/
theorem wFill_cut (c : Dev nD) (t : Fin cfg0.N) (d d' : S1024x4096.Idx → Elt F .f32) :
    wFill m c t d = win0_2.fill (grid0.coords t) d (win0_2.cut (grid0.coords t) (wFill m c t d')) :=
  congrArg _ (win0_2.cut_fill _ _ _).symm

set_option maxHeartbeats 1000000 in
/-- The body's obligation at every point. -/
theorem body_obligation (c : Dev nD) : BodyObligationLoose (dats m 0 c) (defs₀ (F := F)) 𝒱₀ () Set.univ forgotten := fun t => by
  rw [bigSep_W0, bigSep_W0]
  simp only
  rw [show (dats m 0 c).owesAt () t.succ = (dats m 0 c).owesAt () t.castSucc from rfl]
  change iprop(Pipeline.ΦA spec0 c ∗ _) ⊢ wp _ _ _ _ fun _ => iprop(Pipeline.ΦA spec0 c ∗ _)
  unfold Pipeline.ΦA
  rw [scopedRest0_eq]
  iintro ⟨⟨⟨⟨%f5, H5⟩, ⟨%f6, H6⟩, ⟨%f7, H7⟩⟩, HR⟩, Ho, ⟨%d0, H0⟩, ⟨%d1, H1⟩, ⟨%d2, H2⟩, ⟨%X3, H3⟩⟩
  rw [before_0 m c t d0, before_1 m c t d1, before_2 m c t d2]
  iapply (body_triple (F := F) c Set.univ (grid0.coords t) (st0_0 t) (hstage0_0 ((cfg0.slots t 0).cast nbuf0_0))
    (st0_1 t) (hstage0_1 ((cfg0.slots t 1).cast nbuf0_1)) (st0_2 t) (hstage0_2 ((cfg0.slots t 2).cast nbuf0_2))
    (st0_3 t) (hstage0_3 ((cfg0.slots t 3).cast nbuf0_3))
    (Memref.whole cc0_scratch0) (Memref.isWhole_whole _) (Memref.whole cc0_scratch1) (Memref.isWhole_whole _)
    (Memref.whole cc0_scratch2) (Memref.isWhole_whole _)
    (iblk m c 0 t) (iblk m c 1 t) (wFill m c t d2) X3 f5 f6 f7 _)
  simp only [owns_whole]
  isplitl [H0 H1 H2 H3 H5 H6 H7]
  · isplitl [H0]; · iexact H0
    isplitl [H1]; · iexact H1
    isplitl [H2]; · iexact H2
    isplitl [H3]; · iexact H3
    isplitl [H5]; · iexact H5
    isplitl [H6]; · iexact H6
    iexact H7
  iintro ⟨H0, H1, H2, H3, H5, H6, H7⟩
  isplitl [H5 H6 H7 HR]
  · isplitl [H5 H6 H7]
    · isplitl [H5]; · iexists _; iexact H5
      isplitl [H6]; · iexists _; iexact H6
      iexists _; iexact H7
    iexact HR
  isplitl [Ho]; · iexact Ho
  isplitl [H0]; · iexact H0
  isplitl [H1]; · iexact H1
  isplitl [H2]
  · iexists d2
    change _ ⊢ owns (c : Thread nD τ) (st0_2 t) fullShare (win0_2.fill (grid0.coords t) d2 (win0_2.cut (grid0.coords t) (wFill m c t zeroFill)))
    rw [← wFill_cut]
  iexists _; iexact H3

/-- The frame, with quiescence: at any float values, from any memory with zero counters, every execution terminates with
    the three arguments as they began and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  Pipeline.θ_run_frame_forget cfgs (dats m) 0 launch0 defs₀ 𝒱₀ forgotten m ρ main
    (hbody := body_obligation m) (hshare := fun c => (dats m 0 c).share_full fun _ => rfl) (howed := fun _ _ => rfl)
    (V := V m) (hmain := hmain m 𝒱₀) (hA := fun _ _ => rfl) (hΦ := fun _ _ => rfl)
    (Q' := _)
    (hQ' := fun r h => ⟨fun c =>
      ⟨(h.1.arr_in c 0 rfl).trans (V_main_arg0 m c),
        ((h.1 c).2 main_arg1 (Pipeline.mem_restRefs_of main_arg1 (by decide) (by decide))).trans (V_main_arg1 m c),
        (h.1.arr_in c 2 rfl).trans (V_main_arg2 m c)⟩, h.2⟩)

end Cert.KernelIdeal.Frames

end
-- ==== Proof.Transfer.lean ====
/-
  The other two frames. The kernel and its idealization are one program under two names, so the frame proved of the second
  at any float values is the first's at the machine's words. The reference declares no semaphore, so its counters are zero
  because it has none.
-/
module

public import proofs.«01_k».proof.Proof.Frames
public import proofs.«01_k».proof.Proof.Gen.Kernel
public import proofs.«01_k».proof.Proof.Gen.Kernel.Launch
public import proofs.«01_k».proof.Proof.Gen.ReferenceIdeal.Run
public import Idealize.ShloMosaic.Lib.Quiescent

@[expose] public section

set_option maxRecDepth 16384

noncomputable section

namespace Cert.Transfer

open Idealize.ShloMosaic Idealize.ShloMosaic.TcCoe Idealize.SL.Sem

variable {F : FTy → Type} [FloatOps F]

/-- The two programs' kernel bodies and calls are the same, call by call. -/
theorem defs₀_eq : Cert.Kernel.defs₀ (F := F) = Cert.KernelIdeal.defs₀ := by
  funext k p x
  cases k with
  | tc => match p with
    | ⟨0, _⟩ => rfl
  | _ => rfl

/-- So are their definitions, -/
theorem defs_eq : Cert.Kernel.defs (F := F) = Cert.KernelIdeal.defs :=
  congrArg (Pipeline.defs Cert.KernelIdeal.pcfgs) defs₀_eq

/-- and their host programs. -/
theorem main_eq : Cert.Kernel.main (F := F) = Cert.KernelIdeal.main := rfl

/-- The frame of the kernel at the machine's words. -/
theorem quiescent_Kernel : Cert.quiescent_Kernel := by
  intro m g _
  have h := Cert.KernelIdeal.Frames.frame (F := Bits) m g
  rw [← defs_eq, ← main_eq] at h
  exact h

/-- The frame of the idealized kernel at the extended reals. -/
theorem quiescent_KernelIdeal : Cert.quiescent_KernelIdeal := fun m g _ => Cert.KernelIdeal.Frames.frame (F := Ideal) m g

/-- The frame of the reference at the extended reals. -/
theorem quiescent_ReferenceIdeal : Cert.quiescent_ReferenceIdeal := fun m g _ =>
  (θ_run _ _ _).mono (fun r h => ⟨fun c => (h c).2, sem_eq_zero_of_no_sems (by decide) r.2⟩)
    (Cert.ReferenceIdeal.Value.run (F := Ideal) m g)

end Cert.Transfer

end
-- ==== Proof.Blocks.lean ====
/-
  The blocks the grid points read, as elements of the arguments.
-/
module

public import proofs.«01_k».proof.Proof.Frames
public import Idealize.ShloMosaic.Lib.Pointwise
public import Idealize.ShloMosaic.Lib.Pipeline.ValueKit

@[expose] public section

set_option maxRecDepth 16384

noncomputable section

namespace Cert.KernelIdeal.Blocks

open Cert.KernelIdeal Cert.KernelIdeal.Gen Cert.KernelIdeal.Frames
open Idealize.ShloMosaic Idealize.ShloMosaic.TcCoe Idealize.ShloMosaic.Tactic Idealize.SL.Sem

variable {F : FTy → Type} [FloatOps F] (m : (ℓ : Loc nD τ sig) → Buf (Elt F) ℓ)

/-- Every point's grid coordinate is its number. -/
theorem coord (t : Fin cfg0.N) : (grid0.coords t 0).val = t.val :=
  (by decide +kernel : ∀ t : Fin cfg0.N, (grid0.coords t 0).val = t.val) t

/-- The first two windows stay at block zero; the weights' is at the block of the point's number. -/
theorem idx (t : Fin cfg0.N) : win0_0.index t = ![0, 0] ∧ win0_1.index t = ![0, 0] ∧ win0_2.index t = ![t.val, 0] :=
  (by decide +kernel : ∀ t : Fin cfg0.N, win0_0.index t = ![0, 0] ∧ win0_1.index t = ![0, 0] ∧ win0_2.index t = ![t.val, 0]) t

/-- How much of a weight block lies inside the matrix. -/
theorem inside (t : Fin cfg0.N) : win0_2.xsize (grid0.coords t) 0 = min 1024 (65024 - 1024 * t.val) ∧ win0_2.xsize (grid0.coords t) 1 = 4096 :=
  (by decide +kernel : ∀ t : Fin cfg0.N, win0_2.xsize (grid0.coords t) 0 = min 1024 (65024 - 1024 * t.val) ∧ win0_2.xsize (grid0.coords t) 1 = 4096) t

/-- The hidden states' block is the hidden states. -/
theorem hidden_apply (c : Dev nD) (t : Fin cfg0.N) (r : Fin 64) (l : Fin 4096) :
    iblk m c 0 t (ix2 r l) = m ((c.tc : Thread nD τ).loc main_arg0) (ix2 r l) := by
  rw [← V_main_arg0 m c]
  blk_ext [iblk, idx t]

/-- The norm's weights' block is the row of the norm's weights. -/
theorem normW_apply (c : Dev nD) (t : Fin cfg0.N) (l : Fin 4096) :
    iblk m c 1 t (ix2 0 l) = m ((c.tc : Thread nD τ).loc main_arg1) (ix1 l) := by
  have e : iblk m c 1 t (ix2 0 l) = V m c main_v0 (ix2 0 l) := by
    blk_ext [iblk, idx t]
  rw [e]
  entry_read
  pointwise

/-- A weight block's rows inside the matrix, whatever fills the rest, are the matrix's. -/
theorem headW_apply (c : Dev nD) (t : Fin cfg0.N) (d : S1024x4096.Idx → Elt F .f32) (r : Fin 1024) (hv : 1024 * t.val + r.val < 65024) (l : Fin 4096) :
    wFill m c t d (ix2 r l) = m ((c.tc : Thread nD τ).loc main_arg2) (ix2 ⟨1024 * t.val + r.val, hv⟩ l) := by
  have hmv : win0_2.moved (grid0.coords t) (ix2 r l) = true := by
    rw [Pipeline.Window.moved_iff]
    intro a
    match a with
    | ⟨0, _⟩ =>
      show r.val < win0_2.xsize (grid0.coords t) 0
      have := r.isLt
      rw [(inside t).1]; omega
    | ⟨1, _⟩ =>
      show l.val < win0_2.xsize (grid0.coords t) 1
      rw [(inside t).2]; exact l.isLt
  unfold wFill Pipeline.Window.fill
  rw [dif_pos hmv, ← V_main_arg2 m c]
  blk_ext [iblk, idx t]

end Cert.KernelIdeal.Blocks

end
-- ==== Proof.ArgMax.lean ====
/-
  The first index of the largest value, three ways: as a property, as the head of a stable descending sort, and as what
  a running maximum over blocks keeps. Nothing here is about a program.
-/
module

public import Idealize.ShloMosaic.Lib.Pointwise
public import Idealize.ShloMosaic.Lib.SortNet.Extract

@[expose] public section

noncomputable section

namespace Cert.ArgMax

open Idealize.ShloMosaic

/-- `k` is the first index at which `f` is largest. -/
def FirstMax {V : Nat} (f : Fin V → EReal) (k : Fin V) : Prop := (∀ v, f v ≤ f k) ∧ ∀ v, v < k → f v < f k

/-- There is at most one such index. -/
theorem FirstMax.unique {V : Nat} {f : Fin V → EReal} {k k' : Fin V} (h : FirstMax f k) (h' : FirstMax f k') : k = k' := by
  rcases lt_trichotomy k k' with hlt | heq | hgt
  · exact absurd (h'.2 k hlt) (not_lt.2 (h.1 k'))
  · exact heq
  · exact absurd (h.2 k' hgt) (not_lt.2 (h'.1 k))

/-- The head of a stable descending sort of an increasing list is the first entry of the list at which `f` is largest. -/
theorem head_stableSort {V : Nat} (f : Fin V → EReal) (before : Fin V → Fin V → Bool)
    (hb : ∀ a b, before a b = decide (f b < f a)) (l : List (Fin V)) :
    ∀ a, (a :: l).Pairwise (· < ·) → ∃ h t, stableSort before (a :: l) = h :: t ∧ h ∈ a :: l
      ∧ (∀ x ∈ a :: l, f x ≤ f h) ∧ ∀ x ∈ a :: l, x < h → f x < f h := by
  induction l with
  | nil =>
    intro a _
    refine ⟨a, [], rfl, List.mem_singleton_self a, fun x hx => ?_, fun x hx hlt => ?_⟩
    · rw [List.mem_singleton.1 hx]
    · rw [List.mem_singleton.1 hx] at hlt; exact absurd hlt (lt_irrefl a)
  | cons b l ih =>
    intro a hp
    obtain ⟨ha, hp⟩ := List.pairwise_cons.1 hp
    obtain ⟨h, t, e, hmem, hle, hlt⟩ := ih b hp
    by_cases hc : f a < f h
    · refine ⟨h, insertBefore before a t, ?_, List.mem_cons_of_mem a hmem, fun x hx => ?_, fun x hx hxh => ?_⟩
      · rw [stableSort, e, insertBefore, hb, if_pos (decide_eq_true hc)]
      · rcases List.mem_cons.1 hx with rfl | hx
        · exact hc.le
        · exact hle x hx
      · rcases List.mem_cons.1 hx with rfl | hx
        · exact hc
        · exact hlt x hx hxh
    · refine ⟨a, h :: t, ?_, List.mem_cons_self, fun x hx => ?_, fun x hx hxa => ?_⟩
      · rw [stableSort, e, insertBefore, hb, if_neg (by simpa using not_lt.1 hc)]
      · rcases List.mem_cons.1 hx with rfl | hx
        · exact le_rfl
        · exact (hle x hx).trans (not_lt.1 hc)
      · rcases List.mem_cons.1 hx with rfl | hx
        · exact absurd hxa (lt_irrefl _)
        · exact absurd (ha x hx) (not_lt.2 hxa.le)

/-- The position a stable descending sort puts first is the first index of the largest value. -/
theorem firstMax_sortedFrom {V : Nat} (f : Fin V → EReal) (before : Fin V → Fin V → Bool)
    (hb : ∀ a b, before a b = decide (f b < f a)) (z : Fin V) (hz : z.val = 0) : FirstMax f (sortedFrom before z) := by
  obtain ⟨n, rfl⟩ : ∃ n, V = n + 1 := ⟨V - 1, by have := z.isLt; omega⟩
  have hp : (List.finRange (n + 1)).Pairwise (· < ·) := List.pairwise_lt_finRange (n + 1)
  have hc := List.finRange_succ (n := n)
  rw [hc] at hp
  obtain ⟨h, t, e, -, hle, hlt⟩ := head_stableSort f before hb _ _ hp
  rw [← hc] at e hle hlt
  have hs : sortedFrom before z = h := by
    unfold sortedFrom
    have e' : sortPositions (n + 1) before = h :: t := e
    have hi : (z.cast (length_sortPositions (n + 1) before).symm).val = 0 := hz
    rw [List.get_eq_getElem]
    simp only [hi, e', List.getElem_cons_zero]
  rw [hs]
  exact ⟨fun v => hle v (List.mem_finRange v), fun v => hlt v (List.mem_finRange v)⟩

/-- What a running maximum knows after the first `n` values: `b` bounds them all, and either it is still at its start, with
    index zero, or it is the value at `k` and every value before `k` is smaller. -/
def Acc {V : Nat} (f : Fin V → EReal) (n : Nat) (b : EReal) (k : Nat) : Prop :=
  (∀ v, v.val < n → f v ≤ b) ∧ ((b = ⊥ ∧ k = 0) ∨ ∃ h : k < V, f ⟨k, h⟩ = b ∧ ∀ v, v.val < k → f v < b)

/-- Before any value, at minus infinity and index zero. -/
theorem Acc.start {V : Nat} (f : Fin V → EReal) : Acc f 0 ⊥ 0 :=
  ⟨fun _ h => absurd h (Nat.not_lt_zero _), .inl ⟨rfl, rfl⟩⟩

/-- After all of them the index kept is the first of the largest value. -/
theorem Acc.finish {V : Nat} {f : Fin V → EReal} {n : Nat} {b : EReal} {k : Nat} (h : Acc f n b k) (hn : V ≤ n) (hV : 0 < V) :
    ∃ hk : k < V, FirstMax f ⟨k, hk⟩ := by
  have hle : ∀ v, f v ≤ b := fun v => h.1 v (v.isLt.trans_le hn)
  rcases h.2 with ⟨rfl, rfl⟩ | ⟨hk, e, hlt⟩
  · exact ⟨hV, fun v => (hle v).trans bot_le, fun v hv => absurd hv (Nat.not_lt_zero _)⟩
  · exact ⟨hk, fun v => e ▸ hle v, fun v hv => e ▸ hlt v hv⟩

/-- The signed minimum over the positions at which `p` holds, the others read as the largest word, is the first of them. -/
theorem fold_minsi_first {W : Nat} (hW : W ≤ 2147483647) (p : Fin W → Prop) [DecidablePred p] (c : Fin W) (hc : p c)
    (hfirst : ∀ d, d < c → ¬ p d) :
    Finset.univ.fold IntOp.minsi 2147483647#32 (fun d : Fin W => if p d then BitVec.ofNat 32 d.val else 2147483647#32)
      = BitVec.ofNat 32 c.val := by
  have htoInt : ∀ d : Fin W, (BitVec.ofNat 32 d.val).toInt = d.val := fun d => by
    have := d.isLt
    rw [BitVec.toInt_ofNat', Int.bmod_def]; omega
  apply BitVec.eq_of_toInt_eq
  rw [← Finset.fold_hom (op' := (min : Int → Int → Int)) (m := BitVec.toInt) fun a b => SortNet.toInt_minsi a b]
  have hcW := c.isLt
  apply le_antisymm
  · rw [Finset.fold_min_le]
    exact .inr ⟨c, Finset.mem_univ c, by rw [if_pos hc]⟩
  · rw [Finset.le_fold_min, htoInt]
    refine ⟨by have : (2147483647#32).toInt = 2147483647 := by decide
               omega, fun d _ => ?_⟩
    split
    · rename_i hd
      rw [htoInt]
      have : c ≤ d := not_lt.1 fun hlt => hfirst d hlt hd
      exact_mod_cast this
    · have : (2147483647#32).toInt = 2147483647 := by decide
      omega

/-- ONE BLOCK: a block of `W` values starting at value `n`, those past the end read as minus infinity; its maximum, and the first
    position at which the maximum is attained, keep what the running maximum knows. The index is kept as a word. -/
theorem Acc.step {V W : Nat} (hW : W ≤ 2147483647) {f : Fin V → EReal} {n : Nat} {b : EReal} {k : Nat} (h : Acc f n b k)
    (g : Fin W → EReal) (hg : ∀ c, g c = if hv : n + c.val < V then f ⟨n + c.val, hv⟩ else ⊥) (m : EReal)
    (hm : m = Finset.univ.fold max ⊥ g) :
    ∃ k', Acc f (n + W) (if b < m then m else b) k'
      ∧ BitVec.ofNat 32 k' = if b < m then Finset.univ.fold IntOp.minsi 2147483647#32
          (fun c : Fin W => if g c = m then BitVec.ofNat 32 c.val else 2147483647#32) + BitVec.ofNat 32 n else BitVec.ofNat 32 k := by
  have hgm : ∀ c, g c ≤ m := fun c => by rw [hm, Finset.le_fold_max]; exact .inr ⟨c, Finset.mem_univ c, le_rfl⟩
  have hnew : ∀ v : Fin V, n ≤ v.val → v.val < n + W → f v ≤ m := fun v h1 h2 => by
    have e := hg ⟨v.val - n, by omega⟩
    have hv : n + (v.val - n) = v.val := by omega
    rw [dif_pos (by simp only [hv]; exact v.isLt)] at e
    simp only [hv] at e
    exact e ▸ hgm _
  by_cases hb : b < m
  · simp only [if_pos hb]
    obtain ⟨c₀, hc₀⟩ : ∃ c, g c = m := by
      by_contra hno
      have : m < m := by
        conv_lhs => rw [hm]
        rw [Finset.fold_max_lt]
        exact ⟨bot_le.trans_lt hb, fun c _ => lt_of_le_of_ne (hgm c) fun e => hno ⟨c, e⟩⟩
      exact lt_irrefl _ this
    obtain ⟨c, hc, hfirst⟩ : ∃ c, g c = m ∧ ∀ d, d < c → g d ≠ m := by
      classical
      have hne : (Finset.univ.filter fun c => g c = m).Nonempty := ⟨c₀, by simp [hc₀]⟩
      refine ⟨_, (Finset.mem_filter.1 (Finset.min'_mem _ hne)).2, fun d hd e => ?_⟩
      exact absurd (Finset.min'_le _ d (by simp [e])) (not_le.2 hd)
    have hgc := hg c
    have hv : n + c.val < V := by
      by_contra hv
      rw [dif_neg hv, hc] at hgc
      rw [hgc] at hb
      exact not_lt_bot hb
    rw [dif_pos hv, hc] at hgc
    refine ⟨n + c.val, ⟨fun v hvn => ?_, .inr ⟨hv, hgc.symm, fun v hvc => ?_⟩⟩, ?_⟩
    · rcases lt_or_ge v.val n with h1 | h1
      · exact (h.1 v h1).trans hb.le
      · exact hnew v h1 hvn
    · rcases lt_or_ge v.val n with h1 | h1
      · exact (h.1 v h1).trans_lt hb
      · have hcW := c.isLt
        refine lt_of_le_of_ne (hnew v h1 (by omega)) fun e => hfirst ⟨v.val - n, by omega⟩ (Fin.lt_def.2 (by simp only; omega)) ?_
        have hv' : n + (v.val - n) = v.val := by omega
        rw [hg, dif_pos (by simp only [hv']; exact v.isLt)]
        simp only [hv']
        exact e
    · rw [fold_minsi_first hW (fun c => g c = m) c hc hfirst, ← BitVec.ofNat_add, Nat.add_comm]
  · simp only [if_neg hb]
    refine ⟨k, ⟨fun v hvn => ?_, h.2⟩, rfl⟩
    rcases lt_or_ge v.val n with h1 | h1
    · exact h.1 v h1
    · exact (hnew v h1 hvn).trans (not_lt.1 hb)

end Cert.ArgMax

end
-- ==== Proof.Payload.lean ====
/-
  The kernel's stored values and the reference's result read at an index, over the extended reals, and one grid point of the
  running maximum.
-/
module

public import proofs.«01_k».proof.Proof.Body
public import proofs.«01_k».proof.Proof.ArgMax
public import proofs.«01_k».proof.Proof.Gen.ReferenceIdeal.Run

@[expose] public section

set_option maxRecDepth 16384

noncomputable section

namespace Cert.Logit

open Idealize.ShloMosaic

/-- The hidden states, the norm's weights and the head's weights, each element an extended real. -/
abbrev Hidden := (⟨2, ![64, 4096]⟩ : Shape).Idx → EReal
abbrev NormW := (⟨1, ![4096]⟩ : Shape).Idx → EReal
abbrev HeadW := (⟨2, ![65024, 4096]⟩ : Shape).Idx → EReal

/-- A hidden state after the norm: scaled by the reciprocal root of the row's mean square plus the epsilon, then by the norm's
    weight. The two constants are the words the program prints, 4096 and the f32 nearest 1e-5. -/
def normed (x : Hidden) (lw : NormW) (r : Fin 64) (l : Fin 4096) : EReal :=
  x (ix2 r l) * Ideal.rsqrt (Ideal.div (∑ k : Fin 4096, x (ix2 r k) * x (ix2 r k)) (Ideal.ofBits .f32 0x45800000#32)
    + Ideal.ofBits .f32 0x3727C5AC#32) * lw (ix1 l)

/-- The logit of row `r` at vocabulary entry `v`. -/
def logit (x : Hidden) (lw : NormW) (w : HeadW) (r : Fin 64) (v : Fin 65024) : EReal :=
  ∑ k : Fin 4096, normed x lw r k * w (ix2 v k)

end Cert.Logit

namespace Cert.KernelIdeal.Payload

open Cert.KernelIdeal Cert.KernelIdeal.Gen Cert.KernelIdeal.Body Cert.Logit Cert.ArgMax
open Idealize.ShloMosaic

/-- The word of minus infinity. -/
theorem ofBits_negInf : Ideal.ofBits .f32 0xFF800000#32 = ⊥ := by simp [Ideal.ofBits, Ideal.ieee]

/-- The normalised hidden states the kernel keeps are `normed`, the norm's weights read off a reshaped row. -/
theorem pay2_apply (x : S64x4096.Idx → Ideal .f32) (lw : S4096.Idx → Ideal .f32) (w : S1x4096.Idx → Ideal .f32)
    (hw : ∀ l, w (ix2 0 l) = lw (ix1 l)) (r : Fin 64) (l : Fin 4096) :
    k0_pay2 (F := Ideal) x w (ix2 r l) = normed x lw r l := by
  unfold normed
  rw [← hw]
  pointwise [k0_pay2]

/-- The running maximum's start. -/
theorem pay3_apply (r : Fin 64) : k0_pay3 (F := Ideal) (ix2 r 0) = (⊥ : EReal) := by
  rw [← ofBits_negInf]
  pointwise [k0_pay3]

/-- The running index's start. -/
theorem pay4_apply (r : Fin 64) : k0_pay4 (ix2 r 0) = 0#32 := by
  pointwise [k0_pay4]

/-- The mask's comparison of words is the comparison of column numbers. -/
theorem mask_iff (n l : Nat) (hn : n < 64) (hl : l < 1024) :
    IntOp.cmpi .slt (BitVec.ofNat 32 l) (Scalar.subi 65024#32 (Scalar.muli (BitVec.ofNat 32 n) 1024#32)) = 1#1 ↔ 1024 * n + l < 65024 := by
  have e : Scalar.subi 65024#32 (Scalar.muli (BitVec.ofNat 32 n) 1024#32) = BitVec.ofNat 32 (65024 - 1024 * n) := by
    apply BitVec.eq_of_toNat_eq
    simp only [Scalar.subi, Scalar.muli, IntOp.subi, IntOp.muli, BitVec.toNat_sub, BitVec.toNat_mul, BitVec.toNat_ofNat]
    omega
  rw [e]
  simp only [IntOp.cmpi, BitVec.slt, BitVec.toInt_ofNat', Int.bmod_def]
  by_cases h : 1024 * n + l < 65024
  · rw [decide_eq_true (by omega)]; simp [h]
  · rw [decide_eq_false (by omega)]; simp [h]

/-- A block's masked logits: the products of the columns inside the vocabulary, minus infinity past its end. Only the rows of
    the weight block that lie inside the matrix are read. -/
theorem pay5_apply (i : grid0.Coords) (hi : (i 0).val < 64) (h : S64x4096.Idx → Ideal .bf16) (w : S1024x4096.Idx → Ideal .f32) (x : Hidden) (lw : NormW)
    (W : HeadW) (r : Fin 64) (hh : ∀ l, h (ix2 r l) = normed x lw r l)
    (hw : ∀ (c : Fin 1024) (hv : 1024 * (i 0).val + c.val < 65024) l, w (ix2 c l) = W (ix2 ⟨1024 * (i 0).val + c.val, hv⟩ l)) (c : Fin 1024) :
    k0_pay5 (F := Ideal) i h w (ix2 r c)
      = if hv : 1024 * (i 0).val + c.val < 65024 then logit x lw W r ⟨1024 * (i 0).val + c.val, hv⟩ else ⊥ := by
  pointwise [k0_pay5]
  unfold Scalar.select
  rw [ofBits_negInf]
  by_cases hv : 1024 * (i 0).val + c.val < 65024
  · rw [dif_pos hv]
    refine (if_pos ((mask_iff _ _ hi c.isLt).2 hv)).trans ?_
    exact Finset.sum_congr rfl fun k _ => by rw [hh, hw c hv]
  · rw [dif_neg hv]
    exact if_neg fun e => hv ((mask_iff _ _ hi c.isLt).1 e)

/-- A block's maximum. -/
theorem pay6_apply (i : grid0.Coords) (h : S64x4096.Idx → Ideal .bf16) (w : S1024x4096.Idx → Ideal .f32) (r : Fin 64) :
    k0_pay6 (F := Ideal) i h w (ix2 r 0) = Finset.univ.fold max (⊥ : EReal) fun c : Fin 1024 => k0_pay5 (F := Ideal) i h w (ix2 r c) := by
  rw [← ofBits_negInf]
  pointwise [k0_pay6]

/-- The block's start as a word. -/
theorem start_word (n : Nat) : Scalar.muli (BitVec.ofNat 32 n) 1024#32 = BitVec.ofNat 32 (1024 * n) := by
  simp only [Scalar.muli, IntOp.muli]
  rw [← BitVec.ofNat_mul, Nat.mul_comm]

/-- ONE GRID POINT: what the two running buffers hold after it, on a row, from what they held before it. -/
theorem step (i : grid0.Coords) (hi : (i 0).val < 64) (h : S64x4096.Idx → Ideal .bf16) (w : S1024x4096.Idx → Ideal .f32) (x : Hidden) (lw : NormW)
    (W : HeadW) (r : Fin 64) (hh : ∀ l, h (ix2 r l) = normed x lw r l)
    (hw : ∀ (c : Fin 1024) (hv : 1024 * (i 0).val + c.val < 65024) l, w (ix2 c l) = W (ix2 ⟨1024 * (i 0).val + c.val, hv⟩ l))
    (s : S64x1.Idx → Ideal .f32) (b : S64x1.Idx → BitVec 32) (k : Nat)
    (hs : Acc (logit x lw W r) (1024 * (i 0).val) (s (ix2 r 0)) k) (hb : b (ix2 r 0) = BitVec.ofNat 32 k) :
    ∃ k', Acc (logit x lw W r) (1024 * (i 0).val + 1024) (bvStep (F := Ideal) i h w s (ix2 r 0)) k'
      ∧ biStep (F := Ideal) i h w s b (ix2 r 0) = BitVec.ofNat 32 k' := by
  obtain ⟨k', h1, h2⟩ := Acc.step (W := 1024) (by decide) hs (fun c => k0_pay5 (F := Ideal) i h w (ix2 r c))
    (pay5_apply i hi h w x lw W r hh hw) (k0_pay6 (F := Ideal) i h w (ix2 r 0)) (pay6_apply i h w r)
  refine ⟨k', ?_, ?_⟩
  · have e : bvStep (F := Ideal) i h w s (ix2 r 0)
        = if s (ix2 r 0) < k0_pay6 (F := Ideal) i h w (ix2 r 0) then k0_pay6 (F := Ideal) i h w (ix2 r 0) else s (ix2 r 0) := by
      pointwise [bvStep, k0_pay8, k0_pay7]
    rw [e]; exact h1
  · rw [h2, ← hb, ← start_word]
    pointwise [biStep, k0_pay1, k0_pay9, k0_pay7]
    rfl

end Cert.KernelIdeal.Payload

namespace Cert.ReferenceIdeal.Payload

open Cert.ReferenceIdeal Cert.ReferenceIdeal.Gen Cert.Logit Cert.ArgMax
open Idealize.ShloMosaic

/-- The reference's logits, as its operations compose them. -/
def logits (x : S64x4096.Idx → Ideal .f32) (lw : S4096.Idx → Ideal .f32) (w : S65024x4096.Idx → Ideal .f32) : S64x65024.Idx → Ideal .f32 :=
  Host.dotGeneral dot_S64x4096_S4096x65024_S64x65024_1_0_0_1_n_n none (mulf (mulf x (broadcastInDim S64x4096 ![0, 1] bcast_S64x1_S64x4096_0_1 (Host.rsqrt (addf (Host.divf (broadcastInDim S64x1 ![0] bcast_S64_S64x1_0 (Host.reduceAdd (mulf x x) (constant S_ .f32 0x00000000#32) reducesTo_S64x4096_S64_d1 h_S_)) (broadcastInDim S64x1 ![] bcast_S_S64x1 (constant S_ .f32 0x45800000#32))) (broadcastInDim S64x1 ![] bcast_S_S64x1 (constant S_ .f32 0x3727C5AC#32)))))) (broadcastInDim S64x4096 ![0, 1] bcast_S1x4096_S64x4096_0_1 (broadcastInDim S1x4096 ![1] bcast_S4096_S1x4096_1 lw))) (transpose S4096x65024 [1, 0] w transposes_S65024x4096_S4096x65024_1_0)

/-- They are `logit`. -/
theorem logits_apply (x : S64x4096.Idx → Ideal .f32) (lw : S4096.Idx → Ideal .f32) (w : S65024x4096.Idx → Ideal .f32) (r : Fin 64) (v : Fin 65024) :
    logits x lw w (ix2 r v) = logit x lw w r v := by
  unfold logit normed
  pointwise [logits]

/-- Moving along the second axis of a rank-two index replaces its second coordinate. -/
theorem along_ix2 {R V : Nat} (r : Fin R) (z k : Fin V) (h : 1 < 2) :
    Shape.Idx.along (s := ⟨2, ![R, V]⟩) (ix2 r z) ⟨1, h⟩ k = ix2 r k := by
  funext a
  match a with
  | ⟨0, _⟩ => rfl
  | ⟨1, _⟩ => rfl

/-- The position a top-1 reports on a row is the one a stable sort of the row puts first. -/
theorem topK_apply {R V : Nat} (gt : EReal → EReal → BitVec 1) (y : (⟨2, ![R, V]⟩ : Shape).Idx → EReal)
    (h : (⟨2, ![R, V]⟩ : Shape).Slices (fun _ => 0) ⟨2, ![R, 1]⟩) (r : Fin R) (z : Fin V) (hz : z.val = 0) :
    (Host.topK ⟨2, ![R, 1]⟩ 1 gt y h).2 (ix2 r 0)
      = BitVec.ofNat 32 (sortedFrom (fun a b : Fin V => gt (y (ix2 r a)) (y (ix2 r b)) == 1#1) z).val := by
  have e : ∀ j : (⟨2, ![R, V]⟩ : Shape).Idx, j = ix2 r z →
      (Host.sort2 ⟨2, ![R, V]⟩ 1 (fun l r => gt l.1 r.1) y
        (fun i => if hd : 1 < 2 then iotaInDim ⟨2, ![R, V]⟩ 32 ⟨1, hd⟩ i else 0#32)).2 j
      = BitVec.ofNat 32 (sortedFrom (fun a b : Fin V => gt (y (ix2 r a)) (y (ix2 r b)) == 1#1) z).val := by
    rintro j rfl
    have hf : (fun a b : Fin V => gt (y (Shape.Idx.along (s := ⟨2, ![R, V]⟩) (ix2 r z) ⟨1, Nat.one_lt_two⟩ a))
        (y (Shape.Idx.along (s := ⟨2, ![R, V]⟩) (ix2 r z) ⟨1, Nat.one_lt_two⟩ b)) == 1#1)
        = fun a b => gt (y (ix2 r a)) (y (ix2 r b)) == 1#1 :=
      funext fun a => funext fun b => by rw [along_ix2, along_ix2]
    rw [← hf]
    rfl
  refine e _ (funext fun a => Fin.ext ?_)
  match a with
  | ⟨0, _⟩ => exact Nat.zero_add _
  | ⟨1, _⟩ => exact hz.symm

/-- The reference's result on a row is the word of the first index of the largest logit. -/
theorem indices_apply (x : S64x4096.Idx → Ideal .f32) (lw : S4096.Idx → Ideal .f32) (w : S65024x4096.Idx → Ideal .f32) (r : Fin 64) :
    ∃ k, FirstMax (logit x lw w r) k
      ∧ (Host.topK S64x1 1 (FloatOps.cmpfTotal (F := Ideal) (φ := .f32) .gt) (logits x lw w) sliceFits_S64x65024_S64x1).2 (ix2 r 0) = BitVec.ofNat 32 k.val := by
  refine ⟨_, firstMax_sortedFrom _ _ (fun a b => ?_) ⟨0, by decide⟩ rfl,
    topK_apply (FloatOps.cmpfTotal (F := Ideal) (φ := .f32) .gt) (logits x lw w) sliceFits_S64x65024_S64x1 r _ rfl⟩
  rw [logits_apply, logits_apply]
  change (Ideal.cmp .ogt _ _ == 1#1) = _
  simp only [Ideal.cmp]
  by_cases h : logit x lw w r b < logit x lw w r a <;> simp [h]

end Cert.ReferenceIdeal.Payload

end
-- ==== Proof.Value.lean ====
/-
  The kernel's result at the extended reals is the reference's.

  Before grid point `n` the three scratch buffers hold, unless `n` is zero: the normalised hidden states; and on every row
  the largest of the first `1024 n` logits with the first index reaching it. Point 0 starts them, each point adds its block
  of 1024 logits (those past the vocabulary's end, which the last block has, count as minus infinity), and the last point
  stores the index, which is then the first index of the largest of all the logits: what the reference's sort puts first.
-/
module

public import proofs.«01_k».proof.Defs
public import proofs.«01_k».proof.Proof.Blocks
public import proofs.«01_k».proof.Proof.Payload

@[expose] public section

set_option maxRecDepth 16384

noncomputable section

namespace Cert.KernelIdeal.Tracked

open Cert.KernelIdeal Cert.KernelIdeal.Gen Cert.KernelIdeal.Body Cert.KernelIdeal.Frames Cert.KernelIdeal.Blocks Cert.KernelIdeal.Payload
open Cert.Logit Cert.ArgMax
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose)

local notation "𝕄" => MT nD τ sig Unit (Elt Ideal) ℕ (UR sig nD τ) ℕ

/-- The reference's indices, as its operations compose them. -/
def indices (x : Hidden) (lw : NormW) (w : HeadW) : S64x1.Idx → BitVec 32 :=
  (Host.topK Cert.ReferenceIdeal.S64x1 1 (FloatOps.cmpfTotal (F := Ideal) (φ := .f32) .gt) (Cert.ReferenceIdeal.Payload.logits x lw w)
    Cert.ReferenceIdeal.Gen.sliceFits_S64x65024_S64x1).2

/-- What the scratch buffers hold before point `n`, unless it is the first: the normalised hidden states, and on each row
    the largest of the first `1024 n` logits with the first index reaching it. -/
def Inv (x : Hidden) (lw : NormW) (w : HeadW) (n : Nat) (h : S64x4096.Idx → Ideal .bf16) (s : S64x1.Idx → Ideal .f32) (b : S64x1.Idx → BitVec 32) : Prop :=
  n ≠ 0 → (∀ r l, h (ix2 r l) = normed x lw r l)
    ∧ ∀ r, ∃ k, Acc (logit x lw w r) (1024 * n) (s (ix2 r 0)) k ∧ b (ix2 r 0) = BitVec.ofNat 32 k

/-- A point takes them from what they hold before it to what they hold before the next. -/
theorem inv_step (x : Hidden) (lw : NormW) (w : HeadW) (i : grid0.Coords) (X1 : S64x4096.Idx → Ideal .f32) (X2 : S1x4096.Idx → Ideal .f32)
    (X3 : S1024x4096.Idx → Ideal .f32) (h1 : ∀ r l, X1 (ix2 r l) = x (ix2 r l)) (h2 : ∀ l, X2 (ix2 0 l) = lw (ix1 l))
    (h3 : ∀ (c : Fin 1024) (hv : 1024 * (i 0).val + c.val < 65024) l, X3 (ix2 c l) = w (ix2 ⟨1024 * (i 0).val + c.val, hv⟩ l))
    (h : S64x4096.Idx → Ideal .bf16) (s : S64x1.Idx → Ideal .f32) (b : S64x1.Idx → BitVec 32) (hI : Inv x lw w (i 0).val h s b) :
    Inv x lw w ((i 0).val + 1) (hnOf (F := Ideal) i X1 X2 h) (bvStep (F := Ideal) i (hnOf i X1 X2 h) X3 (bv0Of i s))
      (biStep (F := Ideal) i (hnOf i X1 X2 h) X3 (bv0Of i s) (bi0Of Ideal i b)) := by
  have hX : X1 = x := funext fun j => by rw [eq_ix2 j]; exact h1 _ _
  subst hX
  have hh : ∀ r l, hnOf (F := Ideal) i X1 X2 h (ix2 r l) = normed X1 lw r l := by
    intro r l
    unfold hnOf
    split
    · exact pay2_apply X1 lw X2 h2 r l
    · next h0 => exact (hI h0).1 r l
  have hs : ∀ r, ∃ k, Acc (logit X1 lw w r) (1024 * (i 0).val) (bv0Of (F := Ideal) i s (ix2 r 0)) k ∧ bi0Of Ideal i b (ix2 r 0) = BitVec.ofNat 32 k := by
    intro r
    unfold bv0Of bi0Of
    by_cases h0 : (i 0).val = 0
    · rw [if_pos h0, if_pos h0, h0]
      exact ⟨0, by rw [pay3_apply]; exact Acc.start _, pay4_apply r⟩
    · rw [if_neg h0, if_neg h0]
      exact (hI h0).2 r
  intro _
  refine ⟨hh, fun r => ?_⟩
  obtain ⟨k, hk, hb⟩ := hs r
  exact Payload.step i (i 0).isLt _ X3 X1 lw w r (hh r) h3 _ _ k hk hb

/-- After the last point the index kept is the reference's. -/
theorem inv_last (x : Hidden) (lw : NormW) (w : HeadW) (h : S64x4096.Idx → Ideal .bf16) (s : S64x1.Idx → Ideal .f32) (b : S64x1.Idx → BitVec 32)
    (hI : Inv x lw w 64 h s b) : b = indices x lw w := by
  funext j
  obtain ⟨r, rfl⟩ : ∃ r : Fin 64, j = ix2 r 0 := ⟨j 0, by rw [eq_ix2 j]; congr 1; exact Subsingleton.elim (α := Fin 1) _ _⟩
  obtain ⟨k, hk, hb⟩ := (hI (by decide)).2 r
  obtain ⟨hv, hf⟩ := hk.finish (by norm_num) (by norm_num)
  obtain ⟨k', hf', e⟩ := Cert.ReferenceIdeal.Payload.indices_apply x lw w r
  rw [hb, show k = k'.val from congrArg Fin.val (hf.unique hf')]
  exact e.symm

variable (m : (ℓ : Loc nD τ sig) → Buf (Elt Ideal) ℓ)

/-- A device's three arguments. -/
abbrev argX (c : Dev nD) : Hidden := m ((c.tc : Thread nD τ).loc main_arg0)
abbrev argL (c : Dev nD) : NormW := m ((c.tc : Thread nD τ).loc main_arg1)
abbrev argW (c : Dev nD) : HeadW := m ((c.tc : Thread nD τ).loc main_arg2)

/-- What the scratch buffers hold between points, and the rest of the core's state. -/
def Φinv (c : Dev nD) (n : Nat) : sProp 𝕄 :=
  iprop((∃ f5 : Buf (Elt Ideal) ((c : Thread nD τ).loc cc0_scratch0), ∃ f6 : Buf (Elt Ideal) ((c : Thread nD τ).loc cc0_scratch1),
      ∃ f7 : Buf (Elt Ideal) ((c : Thread nD τ).loc cc0_scratch2), ⌜Inv (argX m c) (argL m c) (argW m c) n f5 f6 f7⌝ ∗ (((c : Thread nD τ).loc cc0_scratch0) ↦{fullShare} f5)
      ∗ (((c : Thread nD τ).loc cc0_scratch1) ↦{fullShare} f6) ∗ (((c : Thread nD τ).loc cc0_scratch2) ↦{fullShare} f7))
    ∗ ∃ r, prngReg c r)

/-- The proof data: each input window left at its block, the result's at the reference's indices, the scratch by `Inv`. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => wFill m c t zeroFill
    | ⟨3, _⟩ => indices (argX m c) (argL m c) (argW m c)
    | ⟨_ + 4, h⟩ => absurd h (Nat.not_lt.2 (Nat.le_add_left _ _))
  Φ t := Φinv m c t.val
  q _ := fullShare
  owed _ := 0

theorem before_0 (c : Dev nD) (t : Fin cfg0.N) (d) : (dats m 0 c).before 0 t d = iblk m c 0 t :=
  before0_0_of m (dats m 0 c) rfl (fun _ => rfl) t d

theorem before_1 (c : Dev nD) (t : Fin cfg0.N) (d) : (dats m 0 c).before 1 t d = iblk m c 1 t :=
  before0_1_of m (dats m 0 c) rfl (fun _ => rfl) t d

theorem before_2 (c : Dev nD) (t : Fin cfg0.N) (d) : (dats m 0 c).before 2 t d = wFill m c t d := by
  unfold Dat.before; rw [if_pos (fetch0_2 t)]; rfl

/-- The scratch after a point, from the scratch before it and the blocks it reads. -/
theorem inv_point (c : Dev nD) (t : Fin cfg0.N) (d : S1024x4096.Idx → Ideal .f32) (h : S64x4096.Idx → Ideal .bf16) (s : S64x1.Idx → Ideal .f32)
    (b : S64x1.Idx → BitVec 32) (hI : Inv (argX m c) (argL m c) (argW m c) t.val h s b) :
    Inv (argX m c) (argL m c) (argW m c) (t.val + 1) (hnOf (F := Ideal) (grid0.coords t) (iblk m c 0 t) (iblk m c 1 t) h)
      (bvStep (F := Ideal) (grid0.coords t) (hnOf (grid0.coords t) (iblk m c 0 t) (iblk m c 1 t) h) (wFill m c t d) (bv0Of (grid0.coords t) s))
      (biStep (F := Ideal) (grid0.coords t) (hnOf (grid0.coords t) (iblk m c 0 t) (iblk m c 1 t) h) (wFill m c t d) (bv0Of (grid0.coords t) s)
        (bi0Of Ideal (grid0.coords t) b)) := by
  rw [← coord t] at hI ⊢
  refine inv_step _ _ _ _ _ _ _ (hidden_apply m c t) (normW_apply m c t) (fun r hv l => ?_) _ _ _ hI
  simp only [coord t] at hv ⊢
  exact headW_apply m c t d r hv l

set_option maxHeartbeats 1000000 in
/-- The body's obligation at every point. -/
theorem body_obligation (c : Dev nD) : BodyObligationLoose (dats m 0 c) (defs₀ (F := Ideal)) 𝒱₀ () Set.univ := fun t => by
  rw [bigSep_W0, bigSep_W0]
  simp only
  rw [show (dats m 0 c).owesAt () t.succ = (dats m 0 c).owesAt () t.castSucc from rfl]
  change iprop(Φinv m c t.val ∗ _) ⊢ wp _ _ _ _ fun _ => iprop(Φinv m c (t.val + 1) ∗ _)
  unfold Φinv
  iintro ⟨⟨⟨%f5, %f6, %f7, %hI, H5, H6, H7⟩, HR⟩, Ho, ⟨%d0, H0⟩, ⟨%d1, H1⟩, ⟨%d2, H2⟩, ⟨%d3, H3⟩⟩
  rw [before_0 m c t d0, before_1 m c t d1, before_2 m c t d2]
  iapply (body_triple (F := Ideal) c Set.univ (grid0.coords t) (st0_0 t) (hstage0_0 ((cfg0.slots t 0).cast nbuf0_0))
    (st0_1 t) (hstage0_1 ((cfg0.slots t 1).cast nbuf0_1)) (st0_2 t) (hstage0_2 ((cfg0.slots t 2).cast nbuf0_2))
    (st0_3 t) (hstage0_3 ((cfg0.slots t 3).cast nbuf0_3))
    (Memref.whole cc0_scratch0) (Memref.isWhole_whole _) (Memref.whole cc0_scratch1) (Memref.isWhole_whole _)
    (Memref.whole cc0_scratch2) (Memref.isWhole_whole _)
    (iblk m c 0 t) (iblk m c 1 t) (wFill m c t d2) ((dats m 0 c).before 3 t d3) f5 f6 f7 _)
  simp only [owns_whole]
  isplitl [H0 H1 H2 H3 H5 H6 H7]
  · isplitl [H0]; · iexact H0
    isplitl [H1]; · iexact H1
    isplitl [H2]; · iexact H2
    isplitl [H3]; · iexact H3
    isplitl [H5]; · iexact H5
    isplitl [H6]; · iexact H6
    iexact H7
  have hI' := inv_point m c t d2 f5 f6 f7 hI
  iintro ⟨H0, H1, H2, H3, H5, H6, H7⟩
  isplitl [H5 H6 H7 HR]
  · isplitl [H5 H6 H7]
    · iexists _, _, _
      isplitr
      · ipureintro; exact hI'
      isplitl [H5]; · iexact H5
      isplitl [H6]; · iexact H6
      iexact H7
    iexact HR
  isplitl [Ho]; · iexact Ho
  isplitl [H0]; · iexact H0
  isplitl [H1]; · iexact H1
  isplitl [H2]
  · iexists d2
    change _ ⊢ owns (c : Thread nD τ) (st0_2 t) fullShare (win0_2.fill (grid0.coords t) d2 (win0_2.cut (grid0.coords t) (wFill m c t zeroFill)))
    rw [← wFill_cut]
  by_cases h63 : t.val = 63
  · have hid : idle0 3 (grid0.coords t) = false := by
      show (!(k0_cond2 (grid0.coords t) == 1#1)) = false
      rw [(cond2_iff _).mpr ((coord t).trans h63)]; rfl
    rw [hid, if_pos ((coord t).trans h63)]
    rw [h63] at hI'
    rw [inv_last _ _ _ _ _ _ hI']
    iexact H3
  · have hid : idle0 3 (grid0.coords t) = true := by
      show (!(k0_cond2 (grid0.coords t) == 1#1)) = true
      have : ¬ k0_cond2 (grid0.coords t) = 1#1 := fun e => h63 ((coord t).symm.trans ((cond2_iff _).mp e))
      rw [beq_eq_false_iff_ne.mpr this]; rfl
    have hfl : (win0 3).flush t = false := by
      rw [Bool.eq_false_iff]
      intro e
      have := (flush0_3 t).mp e
      have hl : t.val < 64 := t.isLt
      omega
    rw [hid, hfl, if_neg fun e => h63 ((coord t).symm.trans e)]
    iexists d3; iexact H3

/-- The last point. -/
def tLast : Fin cfg0.N := ⟨63, by decide⟩

/-- The result array ends at the reference's indices. -/
theorem final (c : Dev nD) : (dats m 0 c).arrAt 3 cfg0.N = indices (argX m c) (argL m c) (argW m c) := by
  refine (dats m 0 c).arrAt_eq_of_after_last 3 tLast (by decide +kernel) _ fun j => ?_
  blk_simp
  rfl

/-- The run: the result ends at the reference's indices of the arguments, and the arguments as they began. -/
theorem run (ρ : Dev nD → PrngReg) : θ_run defs (onTc (τ := τ) (main (F := Ideal))) ⟨m, fun _ => 0, ρ⟩ (fun r => ∀ c : Dev nD,
      r.2.mem ((c.tc : Thread nD τ).loc main_v1) = indices (argX m c) (argL m c) (argW m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_frame_track cfgs (dats m) 0 launch0 defs₀ 𝒱₀ m ρ main
    (hbody := body_obligation m) (hshare := fun c => (dats m 0 c).share_full fun _ => rfl) (howed := fun _ _ => rfl)
    (V := V m) (hmain := hmain m 𝒱₀) (hA := fun _ _ => rfl)
    (hin := fun c => by
      change Pipeline.ΦA spec0 c ⊢ Φinv m c 0
      unfold Pipeline.ΦA Φinv
      rw [scopedRest0_eq]
      iintro ⟨⟨⟨%f5, H5⟩, ⟨%f6, H6⟩, ⟨%f7, H7⟩⟩, HR⟩
      isplitl [H5 H6 H7]
      · iexists f5, f6, f7
        isplitr
        · ipureintro; exact fun h => absurd rfl h
        isplitl [H5]; · iexact H5
        isplitl [H6]; · iexact H6
        iexact H7
      iexact HR)
    (hout := fun c => by
      change Φinv m c _ ⊢ Pipeline.ΦA spec0 c
      unfold Pipeline.ΦA Φinv
      rw [scopedRest0_eq]
      iintro ⟨⟨%f5, %f6, %f7, -, H5, H6, H7⟩, HR⟩
      isplitl [H5 H6 H7]
      · isplitl [H5]; · iexists f5; iexact H5
        isplitl [H6]; · iexists f6; iexact H6
        iexists f7; iexact H7
      iexact HR)
    (Q' := _)
    (hQ' := fun r h c => ⟨(Pipeline.FramePost.out_eq h.1 c 3).trans (final m c),
      (Pipeline.FramePost.in_eq h.1 c 0 rfl).trans (V_main_arg0 m c),
      ((h.1 c).2 main_arg1 (Pipeline.mem_restRefs_of main_arg1 (by decide) (by decide))).trans (V_main_arg1 m c),
      (Pipeline.FramePost.in_eq h.1 c 2 rfl).trans (V_main_arg2 m c)⟩)

end Cert.KernelIdeal.Tracked

namespace Cert.Transfer

open Idealize.ShloMosaic Idealize.ShloMosaic.TcCoe Idealize.SL.Sem

/-- The kernel and the reference, at arguments that agree, end with the same indices. -/
theorem algebraic : Cert.algebraic_KernelIdeal_ReferenceIdeal := by
  intro m g m' g' _ hagree
  refine ⟨_, Cert.KernelIdeal.Tracked.run m g, ?_⟩
  refine (θ_run _ _ _).mono (fun r h c => ⟨(h c).1.trans ?_, (h c).2⟩) (Cert.ReferenceIdeal.Value.run (F := Ideal) m' g')
  rw [(hagree c).1, (hagree c).2.1, (hagree c).2.2]
  rfl

end Cert.Transfer

end
-- ==== Proof.lean ====
/- The certificate's theorem: the three frames, the idealization (no rewrites), and the equality of the kernel's result with
   the reference's at the extended reals, each proved in a module of its own. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Transfer
public import proofs.«01_k».proof.Proof.Value

@[expose] public section

noncomputable section

namespace Cert.Proof

/-- Every claim of the certificate. -/
theorem claim : Cert.Claim := ⟨Cert.Kernel.Gen.facts, Cert.KernelIdeal.Gen.facts, Cert.ReferenceIdeal.Gen.facts,
  Cert.Transfer.quiescent_Kernel, Cert.Transfer.quiescent_KernelIdeal, Cert.Transfer.quiescent_ReferenceIdeal, trivial, Cert.Transfer.algebraic⟩

end Cert.Proof

end
